-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x50 : Shape := ⟨2, ![16384, 50]⟩
abbrev S1000x1 : Shape := ⟨2, ![1000, 1]⟩
abbrev S1000 : Shape := ⟨1, ![1000]⟩
abbrev S16384x1000 : Shape := ⟨2, ![16384, 1000]⟩
abbrev S8x1000 : Shape := ⟨2, ![8, 1000]⟩
abbrev S_ : Shape := ⟨0, ![]⟩
abbrev S1x1000 : Shape := ⟨2, ![1, 1000]⟩

abbrev nBuf : Table → Nat
  | .hbm => 4
  | .shared => 1
  | _ => 0

abbrev bufTy : (tb : Table) → Fin (nBuf tb) → BufTy
  | .hbm, ⟨0, _⟩ => ⟨S16384x50, .i32⟩
  | .hbm, ⟨1, _⟩ => ⟨S1000x1, .f32⟩
  | .hbm, ⟨2, _⟩ => ⟨S1000, .f32⟩
  | .hbm, ⟨3, _⟩ => ⟨S16384x1000, .f32⟩
  | .shared, ⟨0, _⟩ => ⟨S8x1000, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_v1_scs : Ref sig .scScalar := ⟨.hbm, 3, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32_24 : BitVec 32) : Fin 2 → Nat :=
  let arg0 : BitVec 32 := BitVec.ofNat 32 (i 0).val
  let c8192_i32 : BitVec 32 := 8192#32
  let v32 : BitVec 32 := Scalar.muli arg0 c8192_i32
  let v33 : BitVec 32 := Scalar.addi v32 c0_i32_24
  let c0_i32_25 : BitVec 32 := 0#32
  ![v33.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16384x50 : Shape := ⟨2, ![16384, 50]⟩
abbrev S1000x1 : Shape := ⟨2, ![1000, 1]⟩
abbrev S1000 : Shape := ⟨1, ![1000]⟩
abbrev S1x1000 : Shape := ⟨2, ![1, 1000]⟩
abbrev S1x1x1x1000 : Shape := ⟨4, ![1, 1, 1, 1000]⟩
abbrev S16384x1x1x1000 : Shape := ⟨4, ![16384, 1, 1, 1000]⟩
abbrev S16384x1000 : Shape := ⟨2, ![16384, 1000]⟩
abbrev S_ : Shape := ⟨0, ![]⟩
abbrev S16384x1000x1 : Shape := ⟨3, ![16384, 1000, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000x1, .f32⟩
  | .hbm, ⟨2, _⟩ => ⟨S1000, .i32⟩
  | .hbm, ⟨3, _⟩ => ⟨S1x1000, .i32⟩
  | .hbm, ⟨4, _⟩ => ⟨S1x1x1x1000, .i32⟩
  | .hbm, ⟨5, _⟩ => ⟨S16384x1x1x1000, .i32⟩
  | .hbm, ⟨6, _⟩ => ⟨S16384x1000, .i32⟩
  | .hbm, ⟨7, _⟩ => ⟨S_, .i32⟩
  | .hbm, ⟨8, _⟩ => ⟨S16384x1000, .i32⟩
  | .hbm, ⟨9, _⟩ => ⟨S16384x1000, .i1⟩
  | .hbm, ⟨10, _⟩ => ⟨S_, .i32⟩
  | .hbm, ⟨11, _⟩ => ⟨S16384x1000, .i32⟩
  | .hbm, ⟨12, _⟩ => ⟨S16384x1000, .i32⟩
  | .hbm, ⟨13, _⟩ => ⟨S16384x1000, .i32⟩
  | .hbm, ⟨14, _⟩ => ⟨S16384x1000x1, .i32⟩
  | .hbm, ⟨15, _⟩ => ⟨S1, .i32⟩
  | .hbm, ⟨16, _⟩ => ⟨S_, .i32⟩
  | .hbm, ⟨17, _⟩ => ⟨S16384x1000x1, .i32⟩
  | .hbm, ⟨18, _⟩ => ⟨S16384x1000x1, .i1⟩
  | .hbm, ⟨19, _⟩ => ⟨S1x1x1, .i32⟩
  | .hbm, ⟨20, _⟩ => ⟨S16384x1000x1, .i32⟩
  | .hbm, ⟨21, _⟩ => ⟨S16384x1000x1, .i1⟩
  | .hbm, ⟨22, _⟩ => ⟨S16384x1000x1, .i1⟩
  | .hbm, ⟨23, _⟩ => ⟨S_, .i1⟩
  | .hbm, ⟨24, _⟩ => ⟨S16384x1000, .i1⟩
  | .hbm, ⟨25, _⟩ => ⟨S16384x1000x1, .f32⟩
  | .hbm, ⟨26, _⟩ => ⟨S16384x1000x1, .i1⟩
  | .hbm, ⟨27, _⟩ => ⟨S_, .f32⟩
  | .hbm, ⟨28, _⟩ => ⟨S16384x1000x1, .f32⟩
  | .hbm, ⟨29, _⟩ => ⟨S16384x1000x1, .f32⟩
  | .hbm, ⟨30, _⟩ => ⟨S16384x1000, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v5 : Ref sig .tc := ⟨.hbm, 29, rfl⟩
abbrev main_v6 : Ref sig .tc := ⟨.hbm, 30, rfl⟩

abbrev nD : Nat := 1
abbrev τ : Topo := Topo.v7x

variable {F : FTy → Type} [FloatOps F]
-- ==== Proof.Setup.lean ====
/-
  The program as the launch theorem sees it, and the resources its proof counts: the handshakes that start and end the
  call, beside the counters of the copies.
-/
module

public import proofs.«01_k».proof.Defs
public import Idealize.ShloMosaic.Lib.SparseCore.Quiescent
public import Idealize.ShloMosaic.Lib.Pipeline.Kit
public import Idealize.ShloMosaic.Lib.Tactic
public import proofs.«01_k».proof.Proof.Gen.KernelIdeal

@[expose] public section

noncomputable section

namespace Cert.Proof.Body

open Idealize.ShloMosaic Idealize.ShloMosaic.Rounds Idealize.SL Idealize.SL.RA Idealize.SL.Sem Cert.KernelIdeal Cert.KernelIdeal.Gen

variable {F : FTy → Type}

/-- The labels of the lifted program, the launch of its one call, and its bodies. -/
abbrev Labs : Labels := Pipeline.Sig Λ₀ (Fin 0) fun p => (pcfgs (F := F) p).Adm
abbrev launch : SparseCore.Cfg τ sig (Labs (F := F)) 1 := sc (F := F)
abbrev bodies [FloatOps F] : Defs nD τ sig (Elt F) (Labs (F := F)) := Pipeline.defs pcfgs defs₀
abbrev vars₀ : Variants := Variants.none
abbrev vars : Variants := vars₀.lift
abbrev var₀ : vars.V := Sum.inl none

/-- The launch's semaphores are what the launch theorem asks. -/
theorem launch_facts : (launch (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds, and beside them the counters of the copies. -/
abbrev Hands : Type := URounds (GSem nD τ sig) ℕ
abbrev Own : Type := Hands × Counters
abbrev handsEmb : Emb Hands (MT nD τ sig (SparseCore.Cfg.HIx 1) (Elt F) ℕ Own ℕ) := embL

end Cert.Proof.Body

end
-- ==== Proof.Loop.lean ====
/-
  The kernel's body read as four loops. The printed program lists every transfer and every wait one after another;
  here that list is named as a counted loop (`steps`), and `body_eq` says the printed body is four of them in a row:
  eight copies of the table into the rows of the shared scratch, eight waits for them, 1024 copies of the scratch into
  blocks of eight rows of the result, and 1024 waits for those.
-/
module

public import proofs.«01_k».proof.Defs
public import proofs.«01_k».proof.Proof.Gen.KernelIdeal

@[expose] public section

noncomputable section

namespace Cert.Proof

open Idealize.ShloMosaic Idealize.SL.Sem

/-- The program that requests `e r` for the last `n` of the `N` indices `r`, in increasing order, and goes on with `k`. -/
def steps {E : Type → Type} {α : Type} {N : ℕ} [NeZero N] (e : Fin N → E PUnit) (k : Prog E α) : ℕ → Prog E α
  | 0 => k
  | n + 1 => .op (e ⟨N - (n + 1), Nat.sub_lt (NeZero.pos N) n.succ_pos⟩) fun _ => steps e k n

end Cert.Proof

namespace Cert.Proof.Body

open Idealize.ShloMosaic Idealize.SL.Sem Cert.KernelIdeal Cert.KernelIdeal.Gen

variable {F : FTy → Type} [FloatOps F]

/-- A row of the shared scratch lies inside it. -/
theorem row_inb (r : Fin 8) : ∀ a, (![r.val, 0] : Fin 2 → Nat) a + S1x1000.size a ≤ S8x1000.size a := by
  revert r; decide

/-- Row `r` of the shared scratch, as a vector. -/
abbrev row (b : Memref sig .scScalar .shared S8x1000 .f32) (r : Fin 8) : Memref sig .scScalar .shared S1000 .f32 :=
  (b.slice (Rect.unit (s := S8x1000) ![r.val, 0] S1x1000.size (row_inb r)) (fun _ => rfl)).squeeze S1000 squeezes_S1x1000_S1000

/-- Block `r` of the rows of the result that SparseCore `i` writes: eight rows. -/
abbrev block (i : grid0.Coords) (o : Memref sig .scScalar .hbm S16384x1000 .f32) (r : Fin 1024) : Memref sig .scScalar .hbm S8x1000 .f32 :=
  o.slice (Rect.unit (s := S16384x1000) (k0_off1 i (BitVec.ofNat 32 (8 * r.val))) S8x1000.size (k0_off1_inb i r)) (fun _ => rfl)

section
variable (i : grid0.Coords) (t : Memref sig .scScalar .hbm S1000 .f32) (ht : t.IsWhole) (o : Memref sig .scScalar .hbm S16384x1000 .f32)
  (b : Memref sig .scScalar .shared S8x1000 .f32) (hb : b.IsWhole) (s s' : DmaSems sig S_)

/-- Start the copy of the table into row `r` of the scratch. -/
abbrev fill (r : Fin 8) : TpuEff nD τ sig (Elt F) Λ₀ (.scScalar ((i 0).castLE hcore0)) PUnit :=
  .enqueueDma t (.here (row b r)) (.dma s.sem) ht.wordExact ((View.wordExact_bits rfl).reshape _ _) ⟨Or.inl rfl, trivial⟩

/-- Wait for one such copy. -/
abbrev filled (r : Fin 8) : TpuEff nD τ sig (Elt F) Λ₀ (.scScalar ((i 0).castLE hcore0)) PUnit :=
  .waitDma2 s.sem t (row b r) ht.wordExact ((View.wordExact_bits rfl).reshape _ _)

/-- Start the copy of the scratch into block `r` of the result. -/
abbrev store (r : Fin 1024) : TpuEff nD τ sig (Elt F) Λ₀ (.scScalar ((i 0).castLE hcore0)) PUnit :=
  .enqueueDma b (.here (block i o r)) (.dma s'.sem) hb.wordExact (View.wordExact_bits rfl) ⟨Or.inl rfl, trivial⟩

/-- Wait for one such copy. -/
abbrev stored (r : Fin 1024) : TpuEff nD τ sig (Elt F) Λ₀ (.scScalar ((i 0).castLE hcore0)) PUnit :=
  .waitDma2 s'.sem b (block i o r) hb.wordExact (View.wordExact_bits rfl)

set_option maxRecDepth 100000 in
set_option maxHeartbeats 0 in
/-- The printed body is the four loops. -/
theorem body_eq (ho : o.IsWhole) :
    cc0_broadcast_kernel (F := F) i t ht o ho b hb s s'
      = steps (fill i t ht b s) (steps (filled i t ht b s) (steps (store i o b hb s') (steps (stored i o b hb s') (.ret (⟨⟩ : PUnit)) 1024) 1024) 8) 8 := by
  rfl

end

end Cert.Proof.Body

end
-- ==== Proof.Fan.lean ====
/-
  A fan of local copies out of one source on one DMA semaphore: `n` copies started one after another, then `n` waits of
  one copy's amount each. No single wait says which copy has landed; all of them together say that every copy has. So
  the waits hand nothing over one by one, and after the last of them every copy's delivery is taken out at once.
-/
module

public import proofs.«01_k».proof.Proof.Loop
public import Idealize.ShloMosaic.Lib.Batch
public import Idealize.ShloMosaic.Lib.Tactic

@[expose] public section

noncomputable section

namespace Cert.Proof

open Idealize.ShloMosaic Idealize.ShloMosaic.Transfers
open Idealize.SL Idealize.SL.RA
open Idealize.SL.BI (sProp Storable bigSep bigSep_insert bigSep_empty)
open scoped Idealize.SL.BI
open Idealize.SL.BI.BIBase Idealize.SL.BI.Laws Idealize.SL.Sem Idealize.SL.ProofMode

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (EC : UEmb Counters (MT nD τ sig Ix Val Name U Lvl)) [EC.LandsIn (upEmb : UEmb _ (MT nD τ sig Ix Val Name U Lvl))]
variable {Λ : Labels} {defs : Defs nD τ sig Val Λ} (𝒱 : Variants) (c : Thread nD τ) (bd : Option 𝒱.V)
variable {α : Type} {Q : α → sProp (MT nD τ sig Ix Val Name U Lvl)} {sp sp' : Space} {s s' : Shape} {e e' : EltTy} {n : ℕ} [NeZero n]
variable (ι : Ix) (N : ℕ) {D : Fin n → sProp (MT nD τ sig Ix Val Name U Lvl)} {sem : DmaSem sig}

/-- What copy `r` takes when it starts: a share of the source and the elements of its destination. -/
abbrev fanIn (src : Memref sig c.2.kind sp s e) (dst : Fin n → Memref sig c.2.kind sp' s e) (q : Fin n → PosShare TreeShare)
    (fs : Buf Val (src.view.loc c)) (fd : (r : Fin n) → Buf Val ((dst r).view.loc c)) (r : Fin n) : sProp 𝕄 :=
  iprop((src.view.loc c ↦[src.view.set]{q r} fs) ∗ ((dst r).view.loc c ↦[(dst r).view.set]{fullShare} fd r))

/-- What copy `r` hands back when it lands: its destination holding what the source held, and the source's share. -/
abbrev fanOut (src : Memref sig c.2.kind sp s e) (dst : Fin n → Memref sig c.2.kind sp' s e) (q : Fin n → PosShare TreeShare)
    (fs : Buf Val (src.view.loc c)) (fd : (r : Fin n) → Buf Val ((dst r).view.loc c)) (r : Fin n) : sProp 𝕄 :=
  iprop(((dst r).view.loc c ↦[(dst r).view.set]{fullShare} ((dst r).view.write Val (fd r) (src.view.read Val fs) Finset.univ))
    ∗ (src.view.loc c ↦[src.view.set]{q r} fs))

/-- The copies of a fan are started: from the last `k` copies' sources and destinations, all are under way. -/
theorem wp_starts [Infinite Name] {src : Memref sig c.2.kind sp s e} {dst : Fin n → Memref sig c.2.kind sp' s e}
    {hsrc : src.view.WordExact} {hdst : ∀ r, (dst r).view.WordExact}
    {hsem : ∀ r, DmaTarget.Typed (nD := nD) sp (.dma sem) (.here (dst r))}
    {q : Fin n → PosShare TreeShare} {fs : Buf Val (src.view.loc c)} {fd : (r : Fin n) → Buf Val ((dst r).view.loc c)}
    (hN : ∀ r, (dst r).view.amount (.dma sem) = N) (hD : ∀ r, fanOut c src dst q fs fd r ⊢ D r)
    (K : Prog (TpuEff nD τ sig Val Λ c.2) α) (k : ℕ) (hk : k ≤ n) :
    iprop(bigSep (pending (n - k)) (fanIn c src dst q fs fd) ∗ Batch EC c (.dma sem) ι N D (n - k) 0)
      ⊢ iprop((Batch EC c (.dma sem) ι N D n 0 -∗ wp frame (wpE defs 𝒱 c bd) Set.univ K Q)
          -∗ wp frame (wpE defs 𝒱 c bd) Set.univ
            (steps (fun r => .enqueueDma src (.here (dst r)) (.dma sem) hsrc (hdst r) (hsem r)) K k) Q) := by
  induction k with
  | zero =>
    rw [steps, Nat.sub_zero]
    iintro ⟨-, HB⟩ Hk
    iapply Hk; iexact HB
  | succ k ih =>
    have hj : n - (k + 1) < n := by omega
    have hs : n - (k + 1) + 1 = n - k := by omega
    rw [steps, bigSep_pending_step _ _ hj]
    iintro ⟨⟨⟨Hs, Hd⟩, Hrest⟩, HB⟩ Hk
    iapply (wp_dmaBatch EC 𝒱 c bd (via := .same) (src := src) (dst := dst ⟨n - (k + 1), hj⟩) (q := q ⟨n - (k + 1), hj⟩) (fs := fs)
      (fd := fd ⟨n - (k + 1), hj⟩) (Sd := (dst ⟨n - (k + 1), hj⟩).view.set) (D := D) (u := 0) ι N (hN ⟨n - (k + 1), hj⟩) (Finset.Subset.refl _) hj
      (Nat.zero_le _) (hD ⟨n - (k + 1), hj⟩)) $$ [Hs Hd HB]
    · isplitl [Hs]; · iexact Hs
      isplitl [Hd] <;> iassumption
    rw [hs]
    iintro HB
    iapply (ih (by omega)) $$ [Hrest HB]
    · isplitl [Hrest] <;> iassumption
    iexact Hk

/-- The waits of a fan: each takes one copy's amount off the semaphore and nothing else. -/
theorem wp_waits {srcw : Memref sig c.2.kind sp s' e'} {dstw : Fin n → Memref sig c.2.kind sp' s e}
    {hsrc : srcw.view.WordExact} {hdst : ∀ r, (dstw r).view.WordExact} (hN : ∀ r, (dstw r).view.dmaCredit = N)
    {O : CellTallies nD τ sig Ix} (K : Prog (TpuEff nD τ sig Val Λ c.2) α) (k : ℕ) (hk : k ≤ n) (W : Waits sig Ix) :
    iprop(MayWaits c ι O ∗ Batch EC c (.dma sem) ι N D n (N * (n - k)) ∗ owes c O W)
      ⊢ iprop((iprop(Batch EC c (.dma sem) ι N D n (N * n) ∗ ∃ W', owes c O W') -∗ wp frame (wpE defs 𝒱 c bd) Set.univ K Q)
          -∗ wp frame (wpE defs 𝒱 c bd) Set.univ
            (steps (fun r => .waitDma2 sem srcw (dstw r) hsrc (hdst r)) K k) Q) := by
  induction k generalizing W with
  | zero =>
    rw [steps, Nat.sub_zero]
    iintro ⟨-, HB, HO⟩ Hk
    iapply Hk
    isplitl [HB]; · iexact HB
    iexists W; iexact HO
  | succ k ih =>
    have hj : n - (k + 1) < n := by omega
    have hu : N * (n - (k + 1)) + 1 * N = N * (n - k) := by
      rw [show n - k = n - (k + 1) + 1 by omega, Nat.mul_add, Nat.mul_one, Nat.one_mul]
    rw [steps]
    iintro ⟨#Hmw, HB, HO⟩ Hk
    ihave Hm := (MayWaits.elim (SemLoc.dma sem)) $$ Hmw
    iapply (wp_waitBatchMulO EC 𝒱 c bd (srcw := srcw) (dstw := dstw ⟨n - (k + 1), hj⟩) ι 1 ((hN _).trans (Nat.one_mul N).symm)
      (hu.le.trans (Nat.mul_le_mul_left N (Nat.sub_le n k)))) $$ [HB HO Hm]
    · isplitl [HB]; · iexact HB
      isplitl [HO] <;> iassumption
    rw [hu]
    iintro ⟨HB, HO⟩
    iapply (ih (by omega) _) $$ [HB HO]
    · isplitr; · iexact Hmw
      isplitl [HB] <;> iassumption
    iexact Hk

include EC in
/-- A whole fan: from the semaphore at zero and every copy's source share and destination, every delivery and the
    semaphore at zero again. -/
theorem wp_fan [Infinite Name] {src : Memref sig c.2.kind sp s e} {dst : Fin n → Memref sig c.2.kind sp' s e}
    {hsrc hsrc' : src.view.WordExact} {hdst hdst' : ∀ r, (dst r).view.WordExact}
    {hsem : ∀ r, DmaTarget.Typed (nD := nD) sp (.dma sem) (.here (dst r))}
    {q : Fin n → PosShare TreeShare} {fs : Buf Val (src.view.loc c)} {fd : (r : Fin n) → Buf Val ((dst r).view.loc c)}
    (hN : ∀ r, (dst r).view.dmaCredit = N) (h0 : 0 < N) (hD : ∀ r, fanOut c src dst q fs fd r ⊢ D r)
    [∀ r, Storable (upEmb : UEmb _ 𝕄) (D r)]
    {O : CellTallies nD τ sig Ix} {W : Waits sig Ix} (K : Prog (TpuEff nD τ sig Val Λ c.2) α) :
    iprop(MayWaits c ι O ∗ semVal (c, .dma sem) 0 ∗ bigSep Finset.univ (fanIn c src dst q fs fd) ∗ owes c O W)
      ⊢ iprop((iprop(bigSep Finset.univ D ∗ semVal (c, .dma sem) 0 ∗ ∃ W', owes c O W') -∗ wp frame (wpE defs 𝒱 c bd) Set.univ K Q)
          -∗ wp frame (wpE defs 𝒱 c bd) Set.univ
            (steps (fun r => .enqueueDma src (.here (dst r)) (.dma sem) hsrc (hdst r) (hsem r))
              (steps (fun r => .waitDma2 sem src (dst r) hsrc' (hdst' r)) K n) n) Q) := by
  iintro ⟨#Hmw, Hv, Hin, HO⟩ Hk
  imod (batch_alloc' EC c ι N D (sm := .dma sem) (E := Set.univ)) $$ Hv with HB
  iapply (wp_starts EC 𝒱 c bd ι N hN hD _ n le_rfl) $$ [Hin HB]
  · rw [Nat.sub_self, ← bigSep_pending_zero]
    isplitl [Hin] <;> iassumption
  iintro HB
  iapply (wp_waits EC 𝒱 c bd ι N hN K n le_rfl W) $$ [HB HO]
  · rw [Nat.sub_self, Nat.mul_zero]
    isplitr; · iexact Hmw
    isplitl [HB] <;> iassumption
  iintro ⟨HB, HO⟩
  imod (batch_collect' EC c h0) $$ HB with ⟨HD, Hv⟩
  iapply Hk
  isplitl [HD]; · iexact HD
  isplitl [Hv] <;> iassumption

end Cert.Proof

end
-- ==== Proof.Blocks.lean ====
/-
  The pieces the kernel copies, and what they hold. The shared scratch is its eight rows. The result is, for each of the
  two SparseCores, 1024 blocks of eight rows: block `r` of SparseCore `i` starts at row `8192 i + 8 r`. A copy of the
  table into a row of the scratch makes that row the table; a copy of the scratch into a block makes every row of the
  block the table.
-/
module

public import proofs.«01_k».proof.Proof.Loop
public import Idealize.ShloMosaic.Lib.ViewIndex

@[expose] public section

noncomputable section

namespace Cert.Proof.Body

open Idealize.ShloMosaic Cert.KernelIdeal Cert.KernelIdeal.Gen

variable {F : FTy → Type} {α : Type}

/-- The table, the result and the shared scratch as a sequencer addresses them. -/
abbrev tabM : Memref sig .scScalar .hbm S1000 .f32 := Memref.whole main_v0_scs
abbrev outM : Memref sig .scScalar .hbm S16384x1000 .f32 := Memref.whole main_v1_scs
abbrev shM : Memref sig .scScalar .shared S8x1000 .f32 := Memref.whole cc0_scratch0

/-- The index of entry `n` of the table. -/
def entry (n : Fin 1000) : S1000.Idx := fun | 0 => n

/-- Every row of the shared scratch is `f`. -/
def everyRow (f : S1000.Idx → α) : S8x1000.Idx → α := fun x => f (entry (x 1))

/-- Every row of the result is `f`. -/
def spread (f : S1000.Idx → α) : S16384x1000.Idx → α := fun x => f (entry (x 1))

/-- The elements of row `r` of the shared scratch. -/
abbrev rowSet (r : Fin 8) : Finset S8x1000.Idx := (Rect.unit (s := S8x1000) ![r.val, 0] S1x1000.size (row_inb r)).set

/-- The elements of block `r` of SparseCore `i`'s part of the result. -/
abbrev blockSet (i : grid0.Coords) (r : Fin 1024) : Finset S16384x1000.Idx :=
  (Rect.unit (s := S16384x1000) (k0_off1 i (BitVec.ofNat 32 (8 * r.val))) S8x1000.size (k0_off1_inb i r)).set

/-- SparseCore `i`'s part of the result. -/
def half (i : grid0.Coords) : Finset S16384x1000.Idx := Finset.univ.biUnion (blockSet i)

theorem mem_rowSet {r : Fin 8} {x : S8x1000.Idx} : x ∈ rowSet r ↔ (x 0).val = r.val := by
  rw [Rect.mem_set_unit, Fin.forall_fin_two]
  have h1 : (x 1).val < 1000 := (x 1).isLt
  show (r.val ≤ (x 0).val ∧ (x 0).val < r.val + 1) ∧ (0 ≤ (x 1).val ∧ (x 1).val < 0 + 1000) ↔ _
  omega

theorem mem_blockSet {i : grid0.Coords} {r : Fin 1024} {x : S16384x1000.Idx} :
    x ∈ blockSet i r ↔ 8192 * (i 0).val + 8 * r.val ≤ (x 0).val ∧ (x 0).val < 8192 * (i 0).val + 8 * r.val + 8 := by
  rw [Rect.mem_set_unit, Fin.forall_fin_two, k0_off1_eq]
  have h1 : (x 1).val < 1000 := (x 1).isLt
  show (8192 * (i 0).val + 8 * r.val ≤ (x 0).val ∧ (x 0).val < 8192 * (i 0).val + 8 * r.val + 8) ∧ (0 ≤ (x 1).val ∧ (x 1).val < 0 + 1000) ↔ _
  omega

theorem mem_half {i : grid0.Coords} {x : S16384x1000.Idx} : x ∈ half i ↔ (x 0).val / 8192 = (i 0).val := by
  simp only [half, Finset.mem_biUnion, Finset.mem_univ, true_and, mem_blockSet]
  constructor
  · rintro ⟨r, h⟩; omega
  · intro h
    refine ⟨⟨(x 0).val % 8192 / 8, by omega⟩, ?_⟩
    show 8192 * (i 0).val + 8 * ((x 0).val % 8192 / 8) ≤ _ ∧ _ < 8192 * (i 0).val + 8 * ((x 0).val % 8192 / 8) + 8
    omega

/-- Two rows of the scratch share no element; -/
theorem rows_disjoint (r r' : Fin 8) (h : r ≠ r') : Disjoint (rowSet r) (rowSet r') :=
  Finset.disjoint_left.mpr fun _ hx hx' => h (Fin.ext ((mem_rowSet.mp hx).symm.trans (mem_rowSet.mp hx')))

/-- together they are all of it. -/
theorem rows_cover : Finset.univ.biUnion rowSet = Finset.univ :=
  Finset.eq_univ_of_forall fun x => Finset.mem_biUnion.mpr ⟨x 0, Finset.mem_univ _, mem_rowSet.mpr rfl⟩

/-- Two blocks of one SparseCore share no element. -/
theorem blocks_disjoint (i : grid0.Coords) (r r' : Fin 1024) (h : r ≠ r') : Disjoint (blockSet i r) (blockSet i r') :=
  Finset.disjoint_left.mpr fun _ hx hx' => by
    have := mem_blockSet.mp hx; have := mem_blockSet.mp hx'; have := mt Fin.ext h; omega

/-- The elements a copy into a row writes are the row's; -/
theorem row_set (r : Fin 8) : (row shM r).view.set = rowSet r := by
  simp only [Memref.view_squeeze, View.set_reshape]; exact View.set_slice_whole _ _

/-- those a copy into a block writes are the block's. -/
theorem block_set (i : grid0.Coords) (r : Fin 1024) : (block i outM r).view.set = blockSet i r := View.set_slice_whole _ _

/-- A copy of the table into row `r` leaves the row the table. -/
theorem row_value (r : Fin 8) (g : S8x1000.Idx → Elt F .f32) (f : S1000.Idx → Elt F .f32) (x : S8x1000.Idx) (hx : x ∈ (row shM r).view.set) :
    (row shM r).view.write (Elt F) g (tabM.view.read (Elt F) f) Finset.univ x = everyRow f x := by
  obtain ⟨y, -, rfl⟩ := Finset.mem_map.mp hx
  refine (View.write_emb_of_mem (v := (row shM r).view) g _ (Finset.mem_univ y)).trans ?_
  show f y = f (entry _)
  congr 1
  refine funext fun a => ?_
  match a with
  | 0 =>
    refine Fin.ext ?_
    show (y 0).val = 0 + 1 * (Shape.reshapeEquiv squeezes_S1x1000_S1000.numel_eq y 1).val
    rw [show Shape.reshapeEquiv squeezes_S1x1000_S1000.numel_eq y = Fin.cons ⟨0, Nat.one_pos⟩ y from Shape.reshapeEquiv_cons_one _ y]
    show (y 0).val = 0 + 1 * (y 0).val
    omega

/-- A copy of a scratch whose rows are all `f` into block `r` leaves every row of the block `f`. -/
theorem block_value (i : grid0.Coords) (r : Fin 1024) (g : S16384x1000.Idx → Elt F .f32) (f : S1000.Idx → Elt F .f32) (x : S16384x1000.Idx)
    (hx : x ∈ (block i outM r).view.set) :
    (block i outM r).view.write (Elt F) g (shM.view.read (Elt F) (everyRow f)) Finset.univ x = spread f x := by
  obtain ⟨y, -, rfl⟩ := Finset.mem_map.mp hx
  refine (View.write_emb_of_mem (v := (block i outM r).view) g _ (Finset.mem_univ y)).trans ?_
  show f (entry (y 1)) = f (entry _)
  congr 2
  refine Fin.ext ?_
  show (y 1).val = k0_off1 i (BitVec.ofNat 32 (8 * r.val)) 1 + 1 * (y 1).val
  rw [k0_off1_eq]
  show (y 1).val = 0 + 1 * (y 1).val
  omega

end Cert.Proof.Body

end
-- ==== Proof.Seq.lean ====
/-
  The kernel's body on one sequencer. It takes a share of the table, its SparseCore's part of the result, its shared
  scratch and its two semaphores at zero; it hands back the same, every row of its part of the result now the table.
-/
module

public import proofs.«01_k».proof.Proof.Setup
public import proofs.«01_k».proof.Proof.Fan
public import proofs.«01_k».proof.Proof.Blocks

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-! ## Dealing a source's shares and a destination's pieces -/

section Deal
variable {nD : Nat} {τ : Topo} {sig : RefSig} {Ix : Type} [DecidableEq Ix] {Val : EltTy → Type} {Name : Type} [DecidableEq Name]
variable {U : Type} [URA U] {Lvl : Type} [Preorder Lvl] {n : ℕ}

local notation "𝕄" => MT nD τ sig Ix Val Name U Lvl

/-- A share of a source and a destination in `n` pieces are a rest of the share and, for each piece, a part of the share
    and the piece; -/
theorem deal {ℓ ℓ' : Loc nD τ sig} {q : PosShare TreeShare} {I : Finset (Idx ℓ)} {fs : Buf Val ℓ}
    {J : Fin n → Finset (Idx ℓ')} {J' : Finset (Idx ℓ')}
    (hJ : ∀ r r', r ≠ r' → Disjoint (J r) (J r')) (hJ' : Finset.univ.biUnion J = J') (g : Buf Val ℓ') :
    (iprop((ℓ ↦[I]{q} fs) ∗ (ℓ' ↦[J']{fullShare} g)) : sProp 𝕄)
      ⊢ iprop((ℓ ↦[I]{Transfers.shareDrop q n} fs)
        ∗ bigSep Finset.univ fun r => iprop((ℓ ↦[I]{Transfers.shareTok q n r} fs) ∗ (ℓ' ↦[J r]{fullShare} g))) := by
  rw [← hJ', pointsTo_biUnion Finset.univ J (fun r _ r' _ h => hJ r r' h), bigSep_sep']
  iintro ⟨Hs, Hd⟩
  ihave H := (Transfers.pointsTo_toks q n).1 $$ Hs
  icases H with ⟨Hr, Ht⟩
  isplitl [Hr]; · iexact Hr
  isplitl [Ht] <;> iassumption

/-- and back. -/
theorem undeal {ℓ ℓ' : Loc nD τ sig} {q : PosShare TreeShare} {I : Finset (Idx ℓ)} {fs : Buf Val ℓ}
    {J : Fin n → Finset (Idx ℓ')} {J' : Finset (Idx ℓ')}
    (hJ : ∀ r r', r ≠ r' → Disjoint (J r) (J r')) (hJ' : Finset.univ.biUnion J = J') (g : Buf Val ℓ') :
    (iprop((ℓ ↦[I]{Transfers.shareDrop q n} fs)
        ∗ bigSep Finset.univ fun r => iprop((ℓ' ↦[J r]{fullShare} g) ∗ (ℓ ↦[I]{Transfers.shareTok q n r} fs))) : sProp 𝕄)
      ⊢ iprop((ℓ ↦[I]{q} fs) ∗ (ℓ' ↦[J']{fullShare} g)) := by
  rw [← hJ', pointsTo_biUnion Finset.univ J (fun r _ r' _ h => hJ r r' h), bigSep_sep']
  iintro ⟨Hr, Hd, Ht⟩
  isplitl [Hr Ht]
  · iapply (Transfers.pointsTo_toks q n).2
    isplitl [Hr] <;> iassumption
  iexact Hd

end Deal

namespace Body

open Cert.KernelIdeal Cert.KernelIdeal.Gen
open Idealize.ShloMosaic.SparseCore (S)
open Idealize.ShloMosaic.SparseCore.Cfg (HIx)

variable {F : FTy → Type} [FloatOps F]

local notation "𝕄" => MT nD τ sig (HIx 1) (Elt F) ℕ Own ℕ

variable (d : Dev nD) (i : grid0.Coords)

/-- SparseCore `i`'s sequencer. -/
abbrev sq : Thread nD τ := S d ((i 0).castLE hcore0)

variable {q : PosShare TreeShare} (ft : S1000.Idx → Elt F .f32)
variable {O : CellTallies nD τ sig (HIx 1)} {Q : PUnit → sProp (MT nD τ sig (HIx 1) (Elt F) ℕ Own ℕ)}

/-- A row the table was copied into is held as a row of the scratch that is the table. -/
theorem row_pts (fs : S8x1000.Idx → Elt F .f32) (r : Fin 8) :
    ((row shM r).view.loc (sq d i) ↦[(row shM r).view.set]{fullShare}
        ((row shM r).view.write (Elt F) fs (tabM.view.read (Elt F) ft) Finset.univ) : sProp 𝕄)
      = (shM.view.loc (sq d i) ↦[rowSet r]{fullShare} everyRow ft) :=
  (pointsTo_congr (row_value r fs ft)).trans (by rw [row_set])

/-- A block the scratch was copied into is held as a block of the result whose rows are the table. -/
theorem block_pts (fo : S16384x1000.Idx → Elt F .f32) (r : Fin 1024) :
    ((block i outM r).view.loc (sq d i) ↦[(block i outM r).view.set]{fullShare}
        ((block i outM r).view.write (Elt F) fo (shM.view.read (Elt F) (everyRow ft)) Finset.univ) : sProp 𝕄)
      = (outM.view.loc (sq d i) ↦[blockSet i r]{fullShare} spread ft) :=
  (pointsTo_congr (block_value i r fo ft)).trans (by rw [block_set])

/-- The first two loops make every row of the scratch the table. -/
theorem fill_run (W : Waits sig (HIx 1)) (fs : S8x1000.Idx → Elt F .f32)
    (k : Prog (TpuEff nD τ sig (Elt F) Λ₀ (sq d i).2) PUnit) :
    (iprop(Transfers.MayWaits (sq d i) (none : HIx 1) O ∗ (tabM.view.loc (sq d i) ↦{q} ft) ∗ (shM.view.loc (sq d i) ↦{fullShare} fs)
        ∗ semVal (sq d i, .dma cc0_scratch1.sem) 0 ∗ owes (sq d i) O W) : sProp 𝕄)
      ⊢ iprop((iprop((tabM.view.loc (sq d i) ↦{q} ft) ∗ (shM.view.loc (sq d i) ↦{fullShare} everyRow ft)
            ∗ semVal (sq d i, .dma cc0_scratch1.sem) 0 ∗ ∃ W', owes (sq d i) O W')
          -∗ wp frame (wpE (defs₀ (F := F)) vars₀ (sq d i) none) Set.univ k Q)
        -∗ wp frame (wpE (defs₀ (F := F)) vars₀ (sq d i) none) Set.univ
          (steps (fill i tabM (Memref.isWhole_whole _) shM cc0_scratch1) (steps (filled i tabM (Memref.isWhole_whole _) shM cc0_scratch1) k 8) 8) Q) := by
  iintro ⟨Hmw, Ht, Hs, Hv, HO⟩ Hk
  ihave H := (deal (ℓ := tabM.view.loc (sq d i)) (ℓ' := shM.view.loc (sq d i)) (q := q) (I := Finset.univ) (fs := ft) rows_disjoint rows_cover fs) $$ [Ht Hs]
  · isplitl [Ht] <;> iassumption
  icases H with ⟨Hr, Hp⟩
  iapply (wp_fan (countersEmb (U := Own)) vars₀ (sq d i) none (none : HIx 1) (row shM 0).view.dmaCredit (src := tabM) (dst := row shM)
    (q := Transfers.shareTok q 8) (fs := ft) (fd := fun _ => fs)
    (D := fun r => iprop((shM.view.loc (sq d i) ↦[rowSet r]{fullShare} everyRow ft) ∗ (tabM.view.loc (sq d i) ↦{Transfers.shareTok q 8 r} ft)))
    (fun _ => rfl) (View.dmaCredit_pos _ (by decide))
    (fun r => sep_mono (Entails.of_eq (row_pts d i ft fs r)) (Entails.of_eq (by rw [View.set_whole]))) k) $$ [Hmw Hv Hp HO]
  · isplitl [Hmw]; · iexact Hmw
    isplitl [Hv]; · iexact Hv
    isplitl [Hp]
    · iapply (Entails.of_eq (bigSep_congr fun r _ => by rw [fanIn, row_set, View.set_whole])) $$ Hp
    iexact HO
  iintro ⟨HD, Hv, HO⟩
  ihave H := (undeal (ℓ := tabM.view.loc (sq d i)) (ℓ' := shM.view.loc (sq d i)) (q := q) (I := Finset.univ) (fs := ft) rows_disjoint rows_cover (everyRow ft)) $$ [Hr HD]
  · isplitl [Hr] <;> iassumption
  icases H with ⟨Ht, Hs⟩
  iapply Hk
  isplitl [Ht]; · iexact Ht
  isplitl [Hs]; · iexact Hs
  isplitl [Hv] <;> iassumption

/-- The last two loops, from a scratch whose every row is the table, make every row of the SparseCore's part of the
    result the table. -/
theorem store_run (W : Waits sig (HIx 1)) (fo : S16384x1000.Idx → Elt F .f32)
    (k : Prog (TpuEff nD τ sig (Elt F) Λ₀ (sq d i).2) PUnit) :
    (iprop(Transfers.MayWaits (sq d i) (none : HIx 1) O ∗ (shM.view.loc (sq d i) ↦{fullShare} everyRow ft) ∗ (outM.view.loc (sq d i) ↦[half i]{fullShare} fo)
        ∗ semVal (sq d i, .dma cc0_scratch2.sem) 0 ∗ owes (sq d i) O W) : sProp 𝕄)
      ⊢ iprop((iprop((shM.view.loc (sq d i) ↦{fullShare} everyRow ft) ∗ (outM.view.loc (sq d i) ↦[half i]{fullShare} spread ft)
            ∗ semVal (sq d i, .dma cc0_scratch2.sem) 0 ∗ ∃ W', owes (sq d i) O W')
          -∗ wp frame (wpE (defs₀ (F := F)) vars₀ (sq d i) none) Set.univ k Q)
        -∗ wp frame (wpE (defs₀ (F := F)) vars₀ (sq d i) none) Set.univ
          (steps (store i outM shM (Memref.isWhole_whole _) cc0_scratch2) (steps (stored i outM shM (Memref.isWhole_whole _) cc0_scratch2) k 1024) 1024) Q) := by
  iintro ⟨Hmw, Hs, Ho, Hv, HO⟩ Hk
  ihave H := (deal (ℓ := shM.view.loc (sq d i)) (ℓ' := outM.view.loc (sq d i)) (q := fullShare) (I := Finset.univ) (fs := everyRow ft) (blocks_disjoint i) (J' := half i) rfl fo) $$ [Hs Ho]
  · isplitl [Hs] <;> iassumption
  icases H with ⟨Hr, Hp⟩
  iapply (wp_fan (countersEmb (U := Own)) vars₀ (sq d i) none (none : HIx 1) (block i outM 0).view.dmaCredit (src := shM) (dst := block i outM)
    (q := Transfers.shareTok fullShare 1024) (fs := everyRow ft) (fd := fun _ => fo)
    (D := fun r => iprop((outM.view.loc (sq d i) ↦[blockSet i r]{fullShare} spread ft) ∗ (shM.view.loc (sq d i) ↦{Transfers.shareTok fullShare 1024 r} everyRow ft)))
    (fun _ => rfl) (View.dmaCredit_pos _ (by decide))
    (fun r => sep_mono (Entails.of_eq (block_pts d i ft fo r)) (Entails.of_eq (by rw [View.set_whole]))) k) $$ [Hmw Hv Hp HO]
  · isplitl [Hmw]; · iexact Hmw
    isplitl [Hv]; · iexact Hv
    isplitl [Hp]
    · iapply (Entails.of_eq (bigSep_congr fun r _ => by rw [fanIn, block_set, View.set_whole])) $$ Hp
    iexact HO
  iintro ⟨HD, Hv, HO⟩
  ihave H := (undeal (ℓ := shM.view.loc (sq d i)) (ℓ' := outM.view.loc (sq d i)) (q := fullShare) (I := Finset.univ) (fs := everyRow ft) (blocks_disjoint i) (J' := half i) rfl (spread ft)) $$ [Hr HD]
  · isplitl [Hr] <;> iassumption
  icases H with ⟨Hs, Ho⟩
  iapply Hk
  isplitl [Hs]; · iexact Hs
  isplitl [Ho]; · iexact Ho
  isplitl [Hv] <;> iassumption

/-- The body: every row of the SparseCore's part of the result becomes the table. -/
theorem seq_run (W : Waits sig (HIx 1)) (fs : S8x1000.Idx → Elt F .f32) (fo : S16384x1000.Idx → Elt F .f32) :
    (iprop(Transfers.MayWaits (sq d i) (none : HIx 1) O ∗ (tabM.view.loc (sq d i) ↦{q} ft) ∗ (outM.view.loc (sq d i) ↦[half i]{fullShare} fo)
        ∗ (shM.view.loc (sq d i) ↦{fullShare} fs) ∗ semVal (sq d i, .dma cc0_scratch1.sem) 0 ∗ semVal (sq d i, .dma cc0_scratch2.sem) 0
        ∗ owes (sq d i) O W) : sProp 𝕄)
      ⊢ wp frame (wpE (defs₀ (F := F)) vars₀ (sq d i) none) Set.univ
          (cc0_broadcast_kernel i tabM (Memref.isWhole_whole _) outM (Memref.isWhole_whole _) shM (Memref.isWhole_whole _) cc0_scratch1 cc0_scratch2)
          fun _ => iprop((tabM.view.loc (sq d i) ↦{q} ft) ∗ (outM.view.loc (sq d i) ↦[half i]{fullShare} spread ft)
            ∗ (shM.view.loc (sq d i) ↦{fullShare} everyRow ft) ∗ semVal (sq d i, .dma cc0_scratch1.sem) 0 ∗ semVal (sq d i, .dma cc0_scratch2.sem) 0
            ∗ ∃ W', owes (sq d i) O W') := by
  rw [body_eq]
  iintro ⟨#Hmw, Ht, Ho, Hs, Hv, Hv', HO⟩
  iapply (fill_run d i ft W fs _) $$ [Ht Hs Hv HO]
  · isplitr; · iexact Hmw
    isplitl [Ht]; · iexact Ht
    isplitl [Hs]; · iexact Hs
    isplitl [Hv] <;> iassumption
  iintro ⟨Ht, Hs, Hv, %W₁, HO⟩
  iapply (store_run d i ft W₁ fo _) $$ [Hs Ho Hv' HO]
  · isplitr; · iexact Hmw
    isplitl [Hs]; · iexact Hs
    isplitl [Ho]; · iexact Ho
    isplitl [Hv'] <;> iassumption
  iintro ⟨Hs, Ho, Hv', HO⟩
  rw [wp_ret]; imodintro
  isplitl [Ht]; · iexact Ht
  isplitl [Ho]; · iexact Ho
  isplitl [Hs]; · iexact Hs
  isplitl [Hv]; · iexact Hv
  isplitl [Hv'] <;> iassumption

end Body

end Cert.Proof

end
-- ==== Proof.Run.lean ====
/-
  The whole program's run: `main` reshapes the table to a vector, hands each of the two SparseCores a share of it and that
  SparseCore's part of the result, and takes both back with every row of the result the table. Stated for the idealized
  program at any floats `F`.
-/
module

public import proofs.«01_k».proof.Proof.Seq
public import Idealize.ShloMosaic.Lib.StableHlo.Run

@[expose] public section

noncomputable section

namespace Cert.Proof.Body

open Cert.KernelIdeal Cert.KernelIdeal.Gen
open Idealize.ShloMosaic
open Idealize.ShloMosaic.SparseCore (S)
open Idealize.ShloMosaic.SparseCore.Cfg (HIx ownBufs ownSems0 ownCells ownRefs mem_ownCells mem_ownRefs)
open Idealize.ShloMosaic.StableHlo (held wp_hlo_within)
open Idealize.ShloMosaic.Rounds (initOf)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ Own ℕ

/-! ## What the launch hands over -/

/-- The arrays: the indices (unused), the table as given, the table as a vector, the result. -/
abbrev idxLoc (d : Dev nD) : Loc nD τ sig := (SparseCore.T d).loc main_arg0
abbrev argLoc (d : Dev nD) : Loc nD τ sig := (SparseCore.T d).loc main_arg1
abbrev tabLoc (d : Dev nD) : Loc nD τ sig := (SparseCore.T d).loc main_v0
abbrev outLoc (d : Dev nD) : Loc nD τ sig := (SparseCore.T d).loc main_v1

/-- The grid's point of SparseCore `c`. -/
def coords (c : Fin (grid0.bound 0)) : grid0.Coords := fun | 0 => c | ⟨_ + 1, h⟩ => absurd h (Nat.not_lt.2 (Nat.le_add_left _ _))

/-- SparseCore `c`'s part of the result. -/
def part (c : Fin 2) : Finset S16384x1000.Idx := half (coords c)

theorem mem_part {c : Fin 2} {x : S16384x1000.Idx} : x ∈ part c ↔ (x 0).val / 8192 = c.val := mem_half (i := coords c)

/-- The two parts share no element; -/
theorem parts_disjoint (c c' : Fin 2) (h : c ≠ c') : Disjoint (part c) (part c') := by
  refine Finset.disjoint_left.mpr fun x hx hx' => h ?_
  rw [mem_part] at hx hx'
  exact Fin.ext (hx.symm.trans hx')

/-- together they are all of it. -/
theorem parts_cover : Finset.univ.biUnion part = Finset.univ := by
  refine Finset.eq_univ_of_forall fun x => ?_
  have h : (x 0).val < 16384 := (x 0).isLt
  have h' : (x 0).val / 8192 < 2 := by omega
  rw [Finset.mem_biUnion]
  refine ⟨⟨(x 0).val / 8192, h'⟩, Finset.mem_univ _, ?_⟩
  rw [mem_part]

variable (m : (ℓ : Loc nD τ sig) → Buf (Elt F) ℓ) (ρ : Dev nD → PrngReg)

/-- The table as a vector. -/
def flat (d : Dev nD) : S1000.Idx → Elt F .f32 := shapeCast S1000 (m (argLoc d)) shapeCasts_S1000x1_S1000

/-- What SparseCore `c` takes, and what it brings back. -/
abbrev takes (d : Dev nD) (c : Fin 2) : sProp 𝕄 :=
  iprop((tabLoc d ↦{Transfers.shareTok fullShare 2 c} flat m d) ∗ (outLoc d ↦[part c]{fullShare} m (outLoc d)))
abbrev brings (d : Dev nD) (c : Fin 2) : sProp 𝕄 :=
  iprop((outLoc d ↦[part c]{fullShare} spread (flat m d)) ∗ (tabLoc d ↦{Transfers.shareTok fullShare 2 c} flat m d))

/-- The call's payloads. -/
def pay : (launch (F := F)).Pay (nD := nD) (Val := Elt F) (Name := ℕ) (U := Own) where
  st := fun | 0 => fun d c => takes m d c
  dn := fun | 0 => fun d c => brings m d c
  go := fun _ _ _ _ => iprop(emp)
  td := fun _ _ _ _ => iprop(emp)
  x := fun _ _ => iprop(emp)

instance pay_storable : (pay (F := F) m).IsStorable where
  st q d c := match q with | 0 => (inferInstance : Storable _ (takes m d c))
  dn q d c := match q with | 0 => (inferInstance : Storable _ (brings m d c))
  go _ _ _ _ := by unfold pay; infer_instance
  td _ _ _ _ := by unfold pay; infer_instance

/-! ## The body as the launch runs it -/

/-- The two semaphores the body names. -/
abbrev cell (d : Dev nD) (c : Fin τ.nSC) : Fin 2 → GSem nD τ sig :=
  ![(S d c, .dma cc0_scratch1.sem), (S d c, .dma cc0_scratch2.sem)]

/-- A sequencer's own semaphores at zero are those two and the rest. -/
theorem ownSems0_split (d : Dev nD) (c : Fin τ.nSC) :
    (ownSems0 (S d c) : sProp 𝕄)
      = iprop((semVal (S d c, .dma cc0_scratch1.sem) 0 ∗ semVal (S d c, .dma cc0_scratch2.sem) 0)
          ∗ bigSep ((ownCells (S d c)) \ Finset.univ.image (cell d c)) fun g => semVal g 0) := by
  have hsc : ∀ s : DmaSem sig, (SemLoc.dma s : SemLoc sig).isScoped .scScalar = true := by decide
  have hmem : ∀ j, cell d c j ∈ ownCells (S d c) := Fin.forall_fin_two.mpr ⟨mem_ownCells.mpr ⟨rfl, hsc _⟩, mem_ownCells.mpr ⟨rfl, hsc _⟩⟩
  have hne : cell d c 0 ≠ cell d c 1 := fun h => absurd (congrArg Prod.snd h) (show (SemLoc.dma cc0_scratch1.sem : SemLoc sig) ≠ .dma cc0_scratch2.sem by decide)
  unfold SparseCore.Cfg.ownSems0
  rw [SparseCore.bigSep_sdiff_split' (t := Finset.univ.image (cell d c)) (Finset.image_subset_iff.mpr fun j _ => hmem j),
    show Finset.univ.image (cell d c) = {cell d c 0, cell d c 1} by rw [show (Finset.univ : Finset (Fin 2)) = {0, 1} from rfl, Finset.image_insert, Finset.image_singleton],
    SparseCore.bigSep_insert' (by rw [Finset.mem_singleton]; exact hne), bigSep_singleton]
  rfl

/-- A sequencer's own buffers are its shared scratch and the rest. -/
theorem ownBufs_split (d : Dev nD) (c : Fin τ.nSC) :
    (ownBufs (S d c) : sProp 𝕄)
      = iprop((∃ f, shM.view.loc (S d c) ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

variable [FloatOps F]

-- the body is never unfolded here
attribute [local irreducible] cc0_broadcast_kernel

/-- SparseCore `c`'s sequencer turns what it takes into what it brings. -/
theorem seq_obl (d : Dev nD) (c : Fin 2) (O : CellTallies nD τ sig (HIx 1)) (W : Waits sig (HIx 1)) (hO : ∀ g, O g none = 0) :
    iprop(levAts (launch (F := F)).L (launch (F := F)).lev ∗ emp ∗ takes m d c
        ∗ scopedBufs (sq d (coords c)) ∗ scopedSems0 (sq d (coords c)) ∗ owes (sq d (coords c)) O W)
      ⊢ wp frame (wpE (defs₀ (F := F)) vars₀ (sq d (coords c)) none) Set.univ
          (cc0_broadcast_kernel (coords c) tabM (Memref.isWhole_whole _) outM (Memref.isWhole_whole _) shM (Memref.isWhole_whole _) cc0_scratch1 cc0_scratch2)
          fun _ => iprop(brings m d c ∗ scopedBufs (sq d (coords c)) ∗ scopedSems0 (sq d (coords c))
            ∗ ∃ W', ⌜∀ p ∈ W', p ∈ W ∨ p.2 = none ∨ p.2 = some (0 : Fin 1)⌝ ∗ owes (sq d (coords c)) O W') := by
  rw [(launch (F := F)).scopedBufs_S launch_facts d _, SparseCore.Cfg.scopedSems0_S (Val := Elt F) d _, ownSems0_split, ownBufs_split]
  iintro ⟨#Hlv, -, ⟨Ht, Ho⟩, ⟨⟨⟨%fs, Hs⟩, Hbufs⟩, HtileBufs⟩, ⟨⟨⟨Hv, Hv'⟩, Hsems⟩, HtileSems⟩, HO⟩
  ihave Hmw := ((launch (F := F)).mayWaits_none (thr := sq d (coords c)) hO) $$ Hlv
  iapply (wp_wand_r Idealize.ShloMosaic.frame (wpE (defs₀ (F := F)) vars₀ (sq d (coords c)) none) Set.univ)
  isplitl [Hmw Ht Ho Hs Hv Hv' HO]
  · iapply (seq_run d (coords c) (q := Transfers.shareTok fullShare 2 c) (flat m d) W fs (m (outLoc d)))
    isplitl [Hmw]; · iexact Hmw
    isplitl [Ht]; · iexact Ht
    isplitl [Ho]; · iexact Ho
    isplitl [Hs]; · iexact Hs
    isplitl [Hv]; · iexact Hv
    isplitl [Hv'] <;> iassumption
  iintro %_ ⟨Ht, Ho, Hs, Hv, Hv', %W', HO⟩
  isplitl [Ht Ho]
  · isplitl [Ho]; · iexact Ho
    iexact Ht
  isplitl [Hs Hbufs HtileBufs]
  · isplitl [Hs Hbufs]
    · isplitl [Hs]; · iexists _; iexact Hs
      iexact Hbufs
    iexact HtileBufs
  isplitl [Hv Hv' Hsems HtileSems]
  · isplitl [Hv Hv' Hsems]
    · isplitl [Hv Hv']
      · isplitl [Hv] <;> iassumption
      iexact Hsems
    iexact HtileSems
  iexists W'
  isplitr
  · ipureintro; intro p _
    exact .inr (match p.2 with | none => .inl rfl | some r => .inr (congrArg some (Subsingleton.elim r 0)))
  iexact HO

/-- The launch's body of the call is the kernel's. -/
theorem defs₀_seq (c : Fin τ.nSC) :
    defs₀ (F := F) (.scScalar c) 0 ()
      = SparseCore.onCore hcore0 (fun c => cc0_broadcast_kernel (coords c) tabM (Memref.isWhole_whole _) outM (Memref.isWhole_whole _)
          shM (Memref.isWhole_whole _) cc0_scratch1 cc0_scratch2) ⟨⟩ c := rfl

/-- The call's obligation at every SparseCore. -/
theorem call_obl : (launch (F := F)).ScalarObl (bodies (F := F)) vars (pay m) var₀ 0 := by
  intro d c O W hO _ _
  simp only [show (pay m).ox = fun _ _ => 0 from rfl, add_zero]
  change _ ⊢ wp _ _ _ (Pipeline.liftProg (defs₀ (F := F) (.scScalar ((launch (F := F)).core 0 c)) 0 ())) _
  refine BI.Entails.trans ?_ (Pipeline.wp_liftProg (bodies (F := F)) (Pipeline.defs_kernel pcfgs defs₀) vars₀ _ Set.univ none _ _)
  have hc : ((launch (F := F)).core 0 c).val < grid0.bound 0 := c.isLt
  rw [defs₀_seq]; simp only [SparseCore.onCore, hc, ↓reduceDIte]
  exact seq_obl m d c O W hO

/-! ## `main` -/

abbrev idxRef : DevRef τ sig := Proc.devRef .tc (main_arg0 : Ref sig .tc)
abbrev argRef : DevRef τ sig := Proc.devRef .tc (main_arg1 : Ref sig .tc)
abbrev tabRef : DevRef τ sig := Proc.devRef .tc (main_v0 : Ref sig .tc)

/-- The reshape of the table to a vector. -/
abbrev toVec : HloOp τ sig (Elt F) := StableHlo.reshape main_arg1 main_v0 (rfl : (.f32 : EltTy) = .f32) shapeCasts_S1000x1_S1000

omit [FloatOps F] in
/-- The arrays `main` holds at the start. -/
theorem arrays (d : Dev nD) (w : (b : Ref sig .tc) → Buf (Elt F) ((d.tc : Thread nD τ).loc b)) :
    (unscopedBufs d w : sProp 𝕄) = iprop((idxLoc d ↦{fullShare} w main_arg0) ∗ (argLoc d ↦{fullShare} w main_arg1)
      ∗ (tabLoc d ↦{fullShare} w main_v0) ∗ (outLoc d ↦{fullShare} w main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

omit [FloatOps F] in
/-- The two arrays the reshape touches. -/
theorem held_pair (d : Dev nD) (V : Valuation τ sig (Elt F)) :
    (held (SparseCore.T d) {argRef, tabRef} V : sProp 𝕄) = iprop((argLoc d ↦{fullShare} V argRef) ∗ (tabLoc d ↦{fullShare} V tabRef)) := by
  unfold held
  rw [SparseCore.bigSep_insert' (by decide), bigSep_singleton]

/-- The device's arrays at the launch. -/
def start (d : Dev nD) : Valuation τ sig (Elt F) := fun b => m (d, b)

omit [FloatOps F] in
/-- The reshape keeps the table and leaves it as a vector. -/
theorem toVec_arg (d : Dev nD) : (toVec (F := F)).result (start m d) argRef = m (argLoc d) :=
  StableHlo.reshape_result_ne _ _ _ _ _ _ _ (by decide)

omit [FloatOps F] in
theorem toVec_tab (d : Dev nD) : (toVec (F := F)).result (start m d) tabRef = flat m d :=
  StableHlo.reshape_result' _ _ _ _ _

/-- What `main` leaves: the arguments as they were, every row of the result the table. -/
abbrev leaves (d : Dev nD) : sProp 𝕄 :=
  iprop((idxLoc d ↦{fullShare} m (idxLoc d)) ∗ (argLoc d ↦{fullShare} m (argLoc d)) ∗ (outLoc d ↦{fullShare} spread (flat m d)))

/-- `main` on device `d`. -/
theorem main_run (κ : GSem nD τ sig → ℕ) (d : Dev nD) :
    iprop((launch (F := F)).ctx handsEmb (pay m) κ ∗ (launch (F := F)).tcSt handsEmb d 0 ∗ (launch (F := F)).tcRes m ρ d ∗ emp)
      ⊢ wp frame (wpE ((launch (F := F)).defs (bodies (F := F))) vars (SparseCore.T d) none) Set.univ (main d)
          fun _ => iprop((launch (F := F)).tcSt handsEmb d 1 ∗ leaves m d ∗ (launch (F := F)).tcEnd d) := by
  unfold SparseCore.Cfg.tcRes SparseCore.Cfg.tcEnd
  rw [arrays]
  simp only [main, wp_bind, wp_pure]
  iintro ⟨#Hctx, Hst, ⟨Hb, ⟨Hi, Ha, Ht, Ho⟩, Hts, -⟩, -⟩
  iapply (wp_hlo_within vars (SparseCore.T d) none Set.univ (op := toVec) (S := {argRef, tabRef}) (show ({argRef, tabRef} : Finset (DevRef τ sig)) ⊆ {argRef, tabRef} from subset_rfl) (V := start m d)) $$ [Hb Ha Ht]
  · isplitl [Hb]; · iexact Hb
    rw [held_pair]
    isplitl [Ha]; · iexact Ha
    iexact Ht
  rw [held_pair, toVec_arg, toVec_tab]
  iintro ⟨Hb, Ha, Ht⟩
  rw [wp_ret]; imodintro
  ihave H := (deal (ℓ := tabLoc d) (ℓ' := outLoc d) (q := fullShare) (I := Finset.univ) (fs := flat m d) parts_disjoint parts_cover (m (outLoc d))) $$ [Ht Ho]
  · isplitl [Ht] <;> iassumption
  icases H with ⟨Hr, Hp⟩
  iapply ((launch (F := F)).wp_run (bodies (F := F)) vars (EH := handsEmb) (P := pay m) κ d 0) $$ [Hst Hp Hb Hi Ha Hr Hts]
  isplitr; · iexact Hctx
  isplitl [Hst]; · iexact Hst
  isplitl [Hp]; · iexact Hp
  iintro ⟨Hst, Hp⟩
  ihave H := (undeal (ℓ := tabLoc d) (ℓ' := outLoc d) (q := fullShare) (I := Finset.univ) (fs := flat m d) parts_disjoint parts_cover (spread (flat m d))) $$ [Hr Hp]
  · isplitl [Hr]; · iexact Hr
    iexact Hp
  icases H with ⟨-, Ho⟩
  imodintro
  isplitl [Hst]; · iexact Hst
  isplitr [Hb Hts]
  · isplitl [Hi]; · iexact Hi
    isplitl [Ha] <;> iassumption
  isplitl [Hb] <;> iassumption

/-! ## The run -/

/-- The launch's share of the counted resources: the handshakes' rounds. -/
def seed : Own := (initOf (launch (F := F)).hsCells (launch (F := F)).hsToks, 1)

omit [FloatOps F] in
theorem bigSep_nothing {I : Type} (s : Finset I) : (bigSep s fun _ => iprop(emp)) = (iprop(emp) : sProp 𝕄) := bigSep_emp_const s

omit [FloatOps F] in
/-- The launch's resources start the handshakes; the kernel asks for nothing of its own. -/
theorem seed_split : (ownU (seed (F := F)) : sProp 𝕄)
    ⊢ |={Set.univ}=> iprop(BI.own (handsEmb (initOf (launch (F := F)).hsCells (launch (F := F)).hsToks)) ∗ (bigSep Finset.univ fun _ : Dev nD => iprop(emp))
        ∗ bigSep Finset.univ fun thr : Thread nD τ => bigSep Finset.univ fun q : Fin 1 => (pay m).x q thr) := by
  unfold seed
  iintro Hu
  ihave H := (ownU_pair (initOf (launch (F := F)).hsCells (launch (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (pay (F := F) m).x q thr) = bigSep Finset.univ fun _ => iprop(emp) from
    bigSep_congr fun _ _ => bigSep_univ_of_subsingleton (0 : Fin 1), bigSep_nothing]
  iempintro

/-- The memory's end on device `d`: every row of the result is the table, the arguments are as they were. -/
def ends (d : Dev nD) (g : (ℓ : Loc nD τ sig) → Buf (Elt F) ℓ) : Prop :=
  g (outLoc d) = spread (flat m d) ∧ g (idxLoc d) = m (idxLoc d) ∧ g (argLoc d) = m (argLoc d)

omit [FloatOps F] in
/-- An array held whole at `f` is `f` in the memory. -/
theorem whole_agree (s : Phys nD τ sig (Elt F)) (ℓ : Loc nD τ sig) (f : Buf (Elt F) ℓ) :
    iprop((ℓ ↦{fullShare} f) ∗ SI s) ⊢ (iprop(⌜s.mem.mem ℓ = f⌝ ∗ SI s) : sProp 𝕄) := by
  iintro ⟨Hf, HSI⟩
  ihave H := (persistent_entails_right (SI_pointsTo_agree (st := s) (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  iexact HSI

omit [FloatOps F] in
/-- What `main` leaves says how the memory ends. -/
theorem leaves_ends (d : Dev nD) (s : Phys nD τ sig (Elt F)) : iprop(leaves m d ∗ SI s) ⊢ (⌜ends m d s.mem.mem⌝ : sProp 𝕄) := by
  iintro ⟨⟨Hi, Ha, Ho⟩, HSI⟩
  ihave H := (whole_agree s (idxLoc d) _) $$ [Hi HSI]
  · isplitl [Hi] <;> iassumption
  icases H with ⟨%hi, HSI⟩
  ihave H := (whole_agree s (argLoc d) _) $$ [Ha HSI]
  · isplitl [Ha] <;> iassumption
  icases H with ⟨%ha, HSI⟩
  ihave H := (whole_agree s (outLoc d) _) $$ [Ho HSI]
  · isplitl [Ho] <;> iassumption
  icases H with ⟨%ho, HSI⟩
  ipureintro; exact ⟨ho, hi, ha⟩

/-- Every fair run of the program ends with every row of the result the table, the arguments as they were, and every
    semaphore at zero. -/
theorem run_main [∀ e, Nonempty (Elt F e)] :
    θ_run (Cert.KernelIdeal.defs (F := F)) (Cert.KernelIdeal.threads (F := F)) ⟨m, fun _ => 0, ρ⟩
      fun r => (∀ d, ends m d r.2.mem) ∧ r.2.sem = fun _ => 0 :=
  SparseCore.Cfg.θ_run_sc_quiescent (K := launch (F := F)) (D := bodies (F := F)) (𝒱 := vars) (EH := handsEmb) (P := pay m) (A := ∅) launch_facts var₀
    (fun q _ => match q with | 0 => call_obl m)
    (fun q hq => match q with | 0 => nomatch hq)
    (fun q hq => match q with | 0 => nomatch hq)
    m ρ main (fun _ => iprop(emp)) (leaves m) (seed (F := F)) (sep_elim_left.trans (seed_split m)) (main_run m ρ)
    (fun d s => ends m d s.mem.mem) (leaves_ends m) _ (fun _ h hz => ⟨h, hz⟩)

end Cert.Proof.Body

end
-- ==== Proof.Table.lean ====
/-
  The reference's result as a function of the table. The reference numbers the table's entries, repeats the numbers once
  per batch element, looks every number up in the table — counting a negative number from the end, and answering a
  filler where a number leaves the table — and drops the last axis. Every number it looks up is an entry's own place, so the
  result's row is the table. Stated for any floats `F`.
-/
module

public import proofs.«01_k».proof.Proof.Gen.ReferenceIdeal
public import Idealize.ShloMosaic.Lib.ReduceAll
public import Idealize.ShloMosaic.Lib.Pipeline.Value

@[expose] public section

noncomputable section

namespace Cert.Proof.Table

open Cert.ReferenceIdeal Cert.ReferenceIdeal.Gen
open Idealize.ShloMosaic

/-! ## Indices -/

/-- Place `n` of a vector of 1000. -/
def at1 (n : Fin 1000) : S1000.Idx := fun | 0 => n

/-- Place `n` of the table, whose second axis has one entry. -/
def atTable (n : Fin 1000) : S1000x1.Idx := fun | 0 => n | 1 => (0 : Fin 1)

/-- The index of the looked-up array that becomes index `y` of the result. -/
def under (y : S16384x1000.Idx) : S16384x1000x1.Idx := fun | 0 => y 0 | 1 => y 1 | 2 => (0 : Fin 1)

/-- The indices of the arrays that become the numbers: one row of numbers with one leading axis, with three leading axes,
    and repeated per batch element. -/
def atRow (n : Fin 1000) : S1x1000.Idx := fun | 0 => (0 : Fin 1) | 1 => n
def atTall (n : Fin 1000) : S1x1x1x1000.Idx := fun | 0 => (0 : Fin 1) | 1 => (0 : Fin 1) | 2 => (0 : Fin 1) | 3 => n
def atCopy (y : S16384x1000.Idx) : S16384x1x1x1000.Idx := fun | 0 => y 0 | 1 => (0 : Fin 1) | 2 => (0 : Fin 1) | 3 => y 1

/-- An index of the looked-up array without its last axis. -/
def above (x : S16384x1000x1.Idx) : S16384x1000.Idx := fun | 0 => x 0 | 1 => x 1

/-! ## The numbers looked up -/

/-- The numbers 0 to 999, once per batch element. -/
def numbers : S16384x1000.Idx → BitVec 32 :=
  shapeCast _ (broadcastInDim S16384x1x1x1000 ![0, 1, 2, 3] bcast_S1x1x1x1000_S16384x1x1x1000_0_1_2_3
    (shapeCast _ (broadcastInDim S1x1000 ![1] bcast_S1000_S1x1000_1 (iotaInDim S1000 32 0)) shapeCasts_S1x1000_S1x1x1x1000))
    shapeCasts_S16384x1x1x1000_S16384x1000

/-- The numbers, each negative one counted from the table's end, with a last axis of one entry. -/
def wrapped : S16384x1000x1.Idx → BitVec 32 :=
  broadcastInDim S16384x1000x1 ![0, 1] bcast_S16384x1000_S16384x1000x1_0_1
    (select (cmpi .slt numbers (broadcastInDim S16384x1000 ![] bcast_S_S16384x1000 (constantI S_ 32 0#32)))
      (addi numbers (broadcastInDim S16384x1000 ![] bcast_S_S16384x1000 (constantI S_ 32 1000#32))) numbers)

/-- Where the number looked up is one of the table's places. -/
def within : S16384x1000x1.Idx → BitVec 1 :=
  andi (cmpi .sge wrapped (broadcastInDim S16384x1000x1 ![] bcast_S_S16384x1000x1 (constantI S_ 32 0#32)))
    (cmpi .sle wrapped (broadcastInDim S16384x1000x1 ![0, 1, 2] bcast_S1x1x1_S16384x1000x1_0_1_2
      (broadcastInDim S1x1x1 ![2] bcast_S1_S1x1x1_2 (constantI S1 32 999#32))))

/-- A number below 1000 is not negative, is between 0 and 999, and reads back as itself. -/
theorem small (n : Fin 1000) : IntOp.cmpi .slt (BitVec.ofNat 32 n.val) 0#32 = 0#1
    ∧ IntOp.cmpi .sge (BitVec.ofNat 32 n.val) 0#32 = 1#1 ∧ IntOp.cmpi .sle (BitVec.ofNat 32 n.val) 999#32 = 1#1
    ∧ min (BitVec.ofNat 32 n.val).toInt.toNat 999 = n.val := by
  revert n
  decide +kernel

/-- The number at `y` is `y`'s second coordinate. -/
theorem numbers_apply (y : S16384x1000.Idx) : numbers y = BitVec.ofNat 32 (y 1).val := by
  unfold numbers
  rw [shapeCast_apply _ _ y (atCopy y)
      (by rw [Shape.rowMajor_val_four, Shape.rowMajor_val_two]
          show (((y 0).val * 1 + 0) * 1 + 0) * 1000 + (y 1).val = (y 0).val * 1000 + (y 1).val
          omega),
    broadcastInDim_apply _ _ _ _ (atTall (y 1))
      (fun | 0 => rfl | 1 => rfl | 2 => rfl | 3 => rfl),
    shapeCast_apply _ _ _ (atRow (y 1))
      (by rw [Shape.rowMajor_val_four, Shape.rowMajor_val_two]
          show 0 * 1000 + (y 1).val = ((0 * 1 + 0) * 1 + 0) * 1000 + (y 1).val
          omega),
    broadcastInDim_apply _ _ _ _ (at1 (y 1)) (fun | 0 => rfl)]
  rfl

/-- No number is negative, so the number looked up at `x` is `x`'s second coordinate. -/
theorem wrapped_apply (x : S16384x1000x1.Idx) : wrapped x = BitVec.ofNat 32 (x 1).val := by
  unfold wrapped
  rw [broadcastInDim_apply _ _ _ _ (above x) (fun | 0 => rfl | 1 => rfl)]
  show Scalar.select (IntOp.cmpi .slt (numbers _) 0#32) _ (numbers _) = _
  rw [numbers_apply]
  show Scalar.select (IntOp.cmpi .slt (BitVec.ofNat 32 (x 1).val) 0#32) _ (BitVec.ofNat 32 (x 1).val) = _
  rw [(small (x 1)).1]
  rfl

/-- Every number looked up is one of the table's places. -/
theorem within_apply (x : S16384x1000x1.Idx) : within x = 1#1 := by
  show IntOp.andi (IntOp.cmpi .sge (wrapped x) 0#32) (IntOp.cmpi .sle (wrapped x) 999#32) = 1#1
  rw [wrapped_apply, (small (x 1)).2.1, (small (x 1)).2.2.1]
  rfl

/-- Where every number looked up for a place of the result is one of the table's places. -/
def inside : S16384x1000x1.Idx → BitVec 1 :=
  broadcastInDim S16384x1000x1 ![0, 1] bcast_S16384x1000_S16384x1000x1_0_1
    (Host.reduce IntOp.andi within (constantI S_ 1 1#1) reducesTo_S16384x1000x1_S16384x1000_d2 h_S_)

/-- That is everywhere. -/
theorem inside_apply (x : S16384x1000x1.Idx) : inside x = 1#1 := by
  unfold inside
  rw [broadcastInDim_apply _ _ _ _ (above x) (fun | 0 => rfl | 1 => rfl)]
  exact Host.reduce_andi_one _ _ _ _ _ rfl within_apply

/-! ## The lookup -/

/-- Looking the numbers up gives at `x` the table's entry of `x`'s second coordinate. -/
theorem lookup_apply {α : Type} (t : S1000x1.Idx → α) (x : S16384x1000x1.Idx) :
    Host.gather gather_S1000x1_S16384x1000x1_S16384x1000x1_2_0_n_n_0_2_11 t wrapped x = t (atTable (x 1)) := by
  unfold Host.gather
  refine congrArg t (funext fun a => ?_)
  match a with
  | 1 => exact Subsingleton.elim (α := Fin 1) _ _
  | 0 =>
    refine Fin.ext ?_
    show gather_S1000x1_S16384x1000x1_S16384x1000x1_2_0_n_n_0_2_11.start x wrapped 0
      + gather_S1000x1_S16384x1000x1_S16384x1000x1_2_0_n_n_0_2_11.batchCoord x 0
      + gather_S1000x1_S16384x1000x1_S16384x1000x1_2_0_n_n_0_2_11.offCoord x 0 = (x 1).val
    rw [GatherDims.batchCoord_eq_zero _ _ _ List.not_mem_nil,
      GatherDims.offCoord_eq_zero _ _ _ (fun h => ((GatherDims.mem_sKept _ _).mp h).1 (List.mem_singleton.mpr rfl))]
    show gather_S1000x1_S16384x1000x1_S16384x1000x1_2_0_n_n_0_2_11.start x wrapped 0 = _
    unfold GatherDims.start
    rw [dif_pos (show (0 : Fin 2) ∈ gather_S1000x1_S16384x1000x1_S16384x1000x1_2_0_n_n_0_2_11.startIndexMap from
        List.mem_singleton.mpr rfl), wrapped_apply]
    exact (small (x 1)).2.2.2

/-! ## The result -/

/-- The reference's result from the table `t`, with filler `z` where a number would leave the table. -/
def result {α : Type} (t : S1000x1.Idx → α) (z : S16384x1000x1.Idx → α) : S16384x1000.Idx → α :=
  shapeCast _ (select inside (Host.gather gather_S1000x1_S16384x1000x1_S16384x1000x1_2_0_n_n_0_2_11 t wrapped) z)
    shapeCasts_S16384x1000x1_S16384x1000

/-- The reference's result at `y` is the table's entry of `y`'s second coordinate: no filler is read. -/
theorem result_apply {α : Type} (t : S1000x1.Idx → α) (z : S16384x1000x1.Idx → α) (y : S16384x1000.Idx) :
    result t z y = t (atTable (y 1)) := by
  unfold result
  rw [shapeCast_apply _ _ y (under y)
      (by rw [Shape.rowMajor_val_three, Shape.rowMajor_val_two]
          show ((y 0).val * 1000 + (y 1).val) * 1 + 0 = (y 0).val * 1000 + (y 1).val
          omega)]
  show Scalar.select (inside (under y)) (Host.gather _ t wrapped (under y)) (z (under y)) = _
  rw [inside_apply, lookup_apply]
  rfl

end Cert.Proof.Table

end
-- ==== Proof.lean ====
/-
  The certificate. The kernel's one run (`Body.run_main`) is stated for any floats; read at the extended reals it gives the
  idealized kernel's frame and its half of `algebraic`, read at bit patterns the kernel's own frame and its half of
  `bitexact`. The reference's result is `Table.result`, which is the kernel's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Run
public import proofs.«01_k».proof.Proof.Table
public import Idealize.ShloMosaic.Adequacy
public import Idealize.ShloMosaic.Init

@[expose] public section

noncomputable section

namespace Cert.Proof

open Idealize.ShloMosaic Idealize.SL.Sem Cert.Kernel

/-- The table as a vector holds at place `n` the table's entry `n`. -/
theorem flat_apply {F : FTy → Type}
    (m : (ℓ : Loc KernelIdeal.nD KernelIdeal.τ KernelIdeal.sig) → Buf (Elt F) ℓ) (d : Dev KernelIdeal.nD) (n : Fin 1000) :
    Body.flat m d (Body.entry n) = m (Body.argLoc d) (Table.atTable n) := by
  unfold Body.flat
  refine shapeCast_apply (s := KernelIdeal.S1000x1) _ _ _ (Table.atTable n) ?_
  rw [Shape.rowMajor_val_two, Shape.rowMajor_val_one]
  show n.val * 1 + 0 = n.val
  omega

/-- The reference's result from the kernel's table is the table in every row. -/
theorem result_eq {F : FTy → Type}
    (m : (ℓ : Loc KernelIdeal.nD KernelIdeal.τ KernelIdeal.sig) → Buf (Elt F) ℓ) (d : Dev KernelIdeal.nD)
    (z : ReferenceIdeal.S16384x1000x1.Idx → Elt F .f32) :
    Table.result (m (Body.argLoc d)) z = Body.spread (Body.flat m d) :=
  funext fun y => (Table.result_apply _ z y).trans (flat_apply m d (y 1)).symm

/-- The kernel ends with its arguments unchanged and every counter at zero: its run at bit patterns. -/
theorem frame_kernel : Cert.quiescent_Kernel := fun m ρ _ =>
  (θ_run Cert.KernelIdeal.defs _ _).mono (fun _ h => ⟨fun c => (h.1 c).2, h.2⟩) (Body.run_main (F := Bits) m ρ)

/-- The idealized kernel ends with its arguments unchanged and every counter at zero. -/
theorem frame_ideal : Cert.quiescent_KernelIdeal := fun m ρ _ =>
  (θ_run Cert.KernelIdeal.defs _ _).mono (fun _ h => ⟨fun c => (h.1 c).2, h.2⟩) (Body.run_main (F := Ideal) m ρ)

/-- The idealized reference ends with its arguments unchanged; it has no counters. -/
theorem frame_reference_ideal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The reference ends with its arguments unchanged; it has no counters. -/
theorem frame_reference : Cert.quiescent_Reference := fun m ρ _ =>
  (θ_run Cert.Reference.defs _ _).mono
    (fun r h => ⟨fun c => (h c).2, sem_eq_zero_of_no_sems (by decide) r.2⟩) (Cert.Reference.Value.run m ρ)

/-- The idealized kernel is the kernel's own text: no operation was rewritten. -/
theorem preserved : Cert.preserves_Kernel_KernelIdeal := trivial

/-- Over the extended reals the kernel and the reference both end with the table in every row of the result. -/
theorem algebraic : Cert.algebraic_KernelIdeal_ReferenceIdeal := fun m ρ m' ρ' _ same =>
  ⟨fun c => Body.spread (Body.flat m c),
    (θ_run Cert.KernelIdeal.defs _ _).mono (fun _ h c => h.1 c) (Body.run_main (F := Ideal) m ρ),
    (θ_run Cert.ReferenceIdeal.defs _ _).mono
      (fun _ h c => ⟨(h c).1.trans ((congrArg (Table.result · _) (same c).2).trans (result_eq m c _)), (h c).2⟩)
      (Cert.ReferenceIdeal.Value.run (F := Ideal) m' ρ')⟩

/-- Over bit patterns the kernel and the reference both end with the table in every row of the result. -/
theorem bitexact : Cert.bitexact_Kernel_Reference := fun m ρ m' ρ' _ same =>
  ⟨fun c => Body.spread (Body.flat (F := Bits) m c),
    (θ_run Cert.KernelIdeal.defs _ _).mono (fun _ h c => h.1 c) (Body.run_main (F := Bits) m ρ),
    (θ_run Cert.Reference.defs _ _).mono
      (fun _ h c => ⟨(h c).1.trans ((congrArg (Table.result · _) (same c).2).trans (result_eq (F := Bits) m c _)), (h c).2⟩)
      (Cert.Reference.Value.run (F := Bits) m' ρ')⟩

/-- The certificate: all seven claims. -/
theorem claim : Cert.Claim :=
  ⟨Cert.Kernel.Gen.facts, Cert.KernelIdeal.Gen.facts, Cert.ReferenceIdeal.Gen.facts, Cert.Reference.Gen.facts,
    frame_kernel, frame_ideal, frame_reference_ideal, frame_reference, preserved, algebraic, bitexact⟩

end Cert.Proof

end
